-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x16x128 : Shape := ⟨3, ![16384, 16, 128]⟩
abbrev S16384x128 : Shape := ⟨2, ![16384, 128]⟩
abbrev S384x128 : Shape := ⟨2, ![384, 128]⟩
abbrev S384 : Shape := ⟨1, ![384]⟩
abbrev S16384 : Shape := ⟨1, ![16384]⟩
abbrev S262144x128 : Shape := ⟨2, ![262144, 128]⟩
abbrev S16384x1 : Shape := ⟨2, ![16384, 1]⟩
abbrev S16384x16 : Shape := ⟨2, ![16384, 16]⟩
abbrev S262144x1 : Shape := ⟨2, ![262144, 1]⟩
abbrev S128x384 : Shape := ⟨2, ![128, 384]⟩
abbrev S1x384 : Shape := ⟨2, ![1, 384]⟩
abbrev S1024x128 : Shape := ⟨2, ![1024, 128]⟩
abbrev S64x128 : Shape := ⟨2, ![64, 128]⟩
abbrev S1024x1 : Shape := ⟨2, ![1024, 1]⟩
abbrev S64x1024 : Shape := ⟨2, ![64, 1024]⟩
abbrev S64x384 : Shape := ⟨2, ![64, 384]⟩
abbrev S1024x64 : Shape := ⟨2, ![1024, 64]⟩

abbrev nBuf : Space → Nat
  | .hbm => 16
  | .vmem => 12
  | .smem => 0
  | _ => 0

abbrev bufTy : (tb : Table) → Fin (tcTables nBuf tb) → BufTy
  | .hbm, ⟨0, _⟩ => ⟨S16384x16x128, .f32⟩
  | .hbm, ⟨1, _⟩ => ⟨S16384x128, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S16384, .i32⟩
  | .hbm, ⟨7, _⟩ => ⟨S262144x128, .f32⟩
  | .hbm, ⟨8, _⟩ => ⟨S16384x1, .i32⟩
  | .hbm, ⟨9, _⟩ => ⟨S16384x16, .i32⟩
  | .hbm, ⟨10, _⟩ => ⟨S262144x1, .i32⟩
  | .hbm, ⟨11, _⟩ => ⟨S128x384, .f32⟩
  | .hbm, ⟨12, _⟩ => ⟨S128x384, .f32⟩
  | .hbm, ⟨13, _⟩ => ⟨S1x384, .f32⟩
  | .hbm, ⟨14, _⟩ => ⟨S1x384, .f32⟩
  | .hbm, ⟨15, _⟩ => ⟨S262144x128, .f32⟩
  | .local _ .vmem, ⟨0, _⟩ => ⟨S1024x128, .f32⟩
  | .local _ .vmem, ⟨1, _⟩ => ⟨S1024x128, .f32⟩
  | .local _ .vmem, ⟨2, _⟩ => ⟨S64x128, .f32⟩
  | .local _ .vmem, ⟨3, _⟩ => ⟨S64x128, .f32⟩
  | .local _ .vmem, ⟨4, _⟩ => ⟨S128x384, .f32⟩
  | .local _ .vmem, ⟨5, _⟩ => ⟨S128x384, .f32⟩
  | .local _ .vmem, ⟨6, _⟩ => ⟨S1x384, .f32⟩
  | .local _ .vmem, ⟨7, _⟩ => ⟨S1x384, .f32⟩
  | .local _ .vmem, ⟨8, _⟩ => ⟨S1024x1, .i32⟩
  | .local _ .vmem, ⟨9, _⟩ => ⟨S1024x1, .i32⟩
  | .local _ .vmem, ⟨10, _⟩ => ⟨S1024x128, .f32⟩
  | .local _ .vmem, ⟨11, _⟩ => ⟨S1024x128, .f32⟩
  | _, _ => ⟨S16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x16x128 : Shape := ⟨3, ![16384, 16, 128]⟩
abbrev S16384x128 : Shape := ⟨2, ![16384, 128]⟩
abbrev S384x128 : Shape := ⟨2, ![384, 128]⟩
abbrev S384 : Shape := ⟨1, ![384]⟩
abbrev S16384 : Shape := ⟨1, ![16384]⟩
abbrev S_ : Shape := ⟨0, ![]⟩
abbrev S16384x1 : Shape := ⟨2, ![16384, 1]⟩
abbrev S16384x2 : Shape := ⟨2, ![16384, 2]⟩
abbrev S128x384 : Shape := ⟨2, ![128, 384]⟩
abbrev S16384x384 : Shape := ⟨2, ![16384, 384]⟩
abbrev S1x384 : Shape := ⟨2, ![1, 384]⟩
abbrev S262144x128 : Shape := ⟨2, ![262144, 128]⟩

abbrev nBuf : Space → Nat
  | .hbm => 96
  | .vmem => 0
  | .smem => 0
  | _ => 0

abbrev bufTy : (tb : Table) → Fin (tcTables nBuf tb) → BufTy
  | .hbm, ⟨0, _⟩ => ⟨S16384x16x128, .f32⟩
  | .hbm, ⟨1, _⟩ => ⟨S16384x128, .f32⟩
  | .hbm, ⟨2, _⟩ => ⟨S384x128, .f32⟩
  | .hbm, ⟨3, _⟩ => ⟨S384x128, .f32⟩
  | .hbm, ⟨4, _⟩ => ⟨S384, .f32⟩
  | .hbm, ⟨5, _⟩ => ⟨S384, .f32⟩
  | .hbm, ⟨6, _⟩ => ⟨S16384, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x1, .i32⟩
  | .hbm, ⟨32, _⟩ => ⟨S16384x2, .i32⟩
  | .hbm, ⟨33, _⟩ => ⟨S16384x128, .f32⟩
  | .hbm, ⟨34, _⟩ => ⟨S128x384, .f32⟩
  | .hbm, ⟨35, _⟩ => ⟨S16384x384, .f32⟩
  | .hbm, ⟨36, _⟩ => ⟨S1x384, .f32⟩
  | .hbm, ⟨37, _⟩ => ⟨S16384x384, .f32⟩
  | .hbm, ⟨38, _⟩ => ⟨S16384x384, .f32⟩
  | .hbm, ⟨39, _⟩ => ⟨S128x384, .f32⟩
  | .hbm, ⟨40, _⟩ => ⟨S16384x384, .f32⟩
  | .hbm, ⟨41, _⟩ => ⟨S1x384, .f32⟩
  | .hbm, ⟨42, _⟩ => ⟨S16384x384, .f32⟩
  | .hbm, ⟨43, _⟩ => ⟨S16384x384, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S16384x128, .f32⟩
  | .hbm, ⟨52, _⟩ => ⟨S16384x128, .f32⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S_, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S16384x128, .f32⟩
  | .hbm, ⟨61, _⟩ => ⟨S16384x128, .f32⟩
  | .hbm, ⟨62, _⟩ => ⟨S_, .f32⟩
  | .hbm, ⟨63, _⟩ => ⟨S16384x128, .f32⟩
  | .hbm, ⟨64, _⟩ => ⟨S16384x128, .f32⟩
  | .hbm, ⟨65, _⟩ => ⟨S_, .f32⟩
  | .hbm, ⟨66, _⟩ => ⟨S16384x128, .f32⟩
  | .hbm, ⟨67, _⟩ => ⟨S16384x128, .f32⟩
  | .hbm, ⟨68, _⟩ => ⟨S16384x128, .f32⟩
  | .hbm, ⟨69, _⟩ => ⟨S16384x128, .f32⟩
  | .hbm, ⟨70, _⟩ => ⟨S16384x128, .f32⟩
  | .hbm, ⟨71, _⟩ => ⟨S_, .f32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S16384x128, .f32⟩
  | .hbm, ⟨76, _⟩ => ⟨S16384x128, .f32⟩
  | .hbm, ⟨77, _⟩ => ⟨S_, .i32⟩
  | .hbm, ⟨78, _⟩ => ⟨S16384, .i32⟩
  | .hbm, ⟨79, _⟩ => ⟨S16384, .i1⟩
  | .hbm, ⟨80, _⟩ => ⟨S_, .i32⟩
  | .hbm, ⟨81, _⟩ => ⟨S16384, .i32⟩
  | .hbm, ⟨82, _⟩ => ⟨S16384, .i32⟩
  | .hbm, ⟨83, _⟩ => ⟨S16384, .i32⟩
  | .hbm, ⟨84, _⟩ => ⟨S_, .i32⟩
  | .hbm, ⟨85, _⟩ => ⟨S16384, .i32⟩
  | .hbm, ⟨86, _⟩ => ⟨S16384, .i1⟩
  | .hbm, ⟨87, _⟩ => ⟨S_, .i32⟩
  | .hbm, ⟨88, _⟩ => ⟨S16384, .i32⟩
  | .hbm, ⟨89, _⟩ => ⟨S16384, .i32⟩
  | .hbm, ⟨90, _⟩ => ⟨S16384, .i32⟩
  | .hbm, ⟨91, _⟩ => ⟨S16384x1, .i32⟩
  | .hbm, ⟨92, _⟩ => ⟨S16384x1, .i32⟩
  | .hbm, ⟨93, _⟩ => ⟨S16384x2, .i32⟩
  | .hbm, ⟨94, _⟩ => ⟨S16384x16x128, .f32⟩
  | .hbm, ⟨95, _⟩ => ⟨S262144x128, .f32⟩
  | _, _ => ⟨S16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_c_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_3 : Ref sig .tc := ⟨.hbm, 23, rfl⟩
abbrev main_v7 : Ref sig .tc := ⟨.hbm, 24, rfl⟩
abbrev main_v8 : Ref sig .tc := ⟨.hbm, 25, rfl⟩
abbrev main_c_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== Proof.Spec.lean ====
module
public import Idealize.ShloMosaic.Lib.Pointwise
public import Idealize.ShloMosaic.Lib.IdealHost
@[expose] public section
set_option maxRecDepth 16384
noncomputable section

/-!
The mathematics of one speaker-state update, written over plain functions.

A batch row holds a table of sixteen states of width 128. A speaker id, clipped to `0 … 15`,
names one of them. The GRU cell maps the named state and the dialogue vector to a new state,
and only the named state is replaced.
-/

namespace Cert.Gru

open Idealize.ShloMosaic

/-- The id word clipped to `0 … 15`, read as a signed number. -/
def clipWord (w : BitVec 32) : BitVec 32 := IntOp.minsi 15#32 (IntOp.maxsi 0#32 w)

/-- The clipped word is below sixteen. -/
theorem clipWord_lt (w : BitVec 32) : (clipWord w).toNat < 16 := by
  have e15 : (15#32 : BitVec 32).toInt = 15 := by decide
  have e0 : (0#32 : BitVec 32).toInt = 0 := by decide
  unfold clipWord IntOp.minsi IntOp.maxsi
  simp only [BitVec.slt_eq_decide, decide_eq_true_eq]
  by_cases h1 : w.toInt < (0#32 : BitVec 32).toInt
  · rw [if_pos h1]
    decide
  · rw [if_neg h1]
    by_cases h2 : (15#32 : BitVec 32).toInt < w.toInt
    · rw [if_pos h2]
      decide
    · rw [if_neg h2]
      rw [e15] at h2
      rw [e0] at h1
      have := BitVec.toInt_eq_toNat_cond w
      have hw := w.isLt
      split_ifs at this <;> omega

/-- The state named by an id word. -/
def slot (w : BitVec 32) : Fin 16 := ⟨(clipWord w).toNat, clipWord_lt w⟩

/-- The clipped word is the number of the state it names. -/
theorem clipWord_eq (w : BitVec 32) : clipWord w = BitVec.ofNat 32 (slot w).val := by
  apply BitVec.eq_of_toNat_eq
  simp [slot]

/-- One output of a linear layer: row `q` of the weight against the vector, plus the bias. -/
def proj (x : Fin 128 → EReal) (W : Fin 384 → Fin 128 → EReal) (b : Fin 384 → EReal)
    (q : Fin 384) : EReal := (∑ k, x k * W q k) + b q

/-- One entry of the GRU cell from its six gate inputs and the old entry. -/
def cell (ir iz iN hr hz hn h : EReal) : EReal :=
  (1 - Ideal.logistic (iz + hz)) * Ideal.tanh (iN + Ideal.logistic (ir + hr) * hn)
    + Ideal.logistic (iz + hz) * h

/-- The place of entry `d` in the gate number `g` of a stacked projection. -/
def gate (g : Fin 3) (d : Fin 128) : Fin 384 := ⟨128 * g.val + d.val, by omega⟩

/-- The new state at entry `d`, from the old state `h` and the dialogue vector `u`. -/
def fresh (Wi Wh : Fin 384 → Fin 128 → EReal) (bi bh : Fin 384 → EReal)
    (h u : Fin 128 → EReal) (d : Fin 128) : EReal :=
  cell (proj u Wi bi (gate 0 d)) (proj u Wi bi (gate 1 d)) (proj u Wi bi (gate 2 d))
    (proj h Wh bh (gate 0 d)) (proj h Wh bh (gate 1 d)) (proj h Wh bh (gate 2 d)) (h d)

/-- The updated state table of one batch row: the named state is replaced by the fresh one. -/
def update (Wi Wh : Fin 384 → Fin 128 → EReal) (bi bh : Fin 384 → EReal)
    (S : Fin 16 → Fin 128 → EReal) (u : Fin 128 → EReal) (w : BitVec 32)
    (s : Fin 16) (d : Fin 128) : EReal :=
  if slot w = s then fresh Wi Wh bi bh (S (slot w)) u d else S s d

/-- The batch row that row `i` of the flattened state table belongs to. -/
def batchOf (i : Fin 262144) : Fin 16384 := ⟨i.val / 16, by omega⟩

/-- The state that row `i` of the flattened state table holds. -/
def stateOf (i : Fin 262144) : Fin 16 := ⟨i.val % 16, by omega⟩

/-- The whole updated table, its batch rows and states flattened to one axis. -/
def table (S : Fin 16384 → Fin 16 → Fin 128 → EReal) (U : Fin 16384 → Fin 128 → EReal)
    (Wi Wh : Fin 384 → Fin 128 → EReal) (bi bh : Fin 384 → EReal) (ids : Fin 16384 → BitVec 32)
    (i : Fin 262144) (d : Fin 128) : EReal :=
  update Wi Wh bi bh (S (batchOf i)) (U (batchOf i)) (ids (batchOf i)) (stateOf i) d

end Cert.Gru
-- ==== Proof.Block.lean ====
module
public import proofs.«01_k».proof.Proof.Gen.KernelIdeal.Value
public import proofs.«01_k».proof.Proof.Spec
@[expose] public section
set_option maxRecDepth 16384
noncomputable section

/-!
What one block of the kernel computes.

A block holds 1024 state rows, sixteen for each of 64 batch rows. The kernel marks in each batch
row the state its id names, gathers the marked states by a product with a 0/1 matrix, applies the
GRU cell, and spreads the results back over the block by a second product with a 0/1 matrix.
-/

namespace Cert.Gru

open Cert.KernelIdeal Cert.KernelIdeal.Gen
open Idealize.ShloMosaic

/-! ## Integer words, marking and gathering -/

/-- The kernel's `r mod 16` on words, with its sign corrections, is the remainder. -/
theorem mod_word : ∀ r : Fin 1024,
    Scalar.select
        (IntOp.andi
          (IntOp.xori
            (IntOp.cmpi CmpIPredicate.slt
              (IntOp.remsi ArithUnit.vector (BitVec.ofNat 32 r.val)
                (Scalar.select (Scalar.cmpi CmpIPredicate.eq 16#32 0#32) 1#32 16#32))
              0#32)
            (Scalar.cmpi CmpIPredicate.slt (Scalar.select (Scalar.cmpi CmpIPredicate.eq 16#32 0#32) 1#32 16#32) 0#32))
          (IntOp.cmpi CmpIPredicate.ne
            (IntOp.remsi ArithUnit.vector (BitVec.ofNat 32 r.val)
              (Scalar.select (Scalar.cmpi CmpIPredicate.eq 16#32 0#32) 1#32 16#32))
            0#32))
        (IntOp.addi
          (IntOp.remsi ArithUnit.vector (BitVec.ofNat 32 r.val)
            (Scalar.select (Scalar.cmpi CmpIPredicate.eq 16#32 0#32) 1#32 16#32))
          (Scalar.select (Scalar.cmpi CmpIPredicate.eq 16#32 0#32) 1#32 16#32))
        (IntOp.remsi ArithUnit.vector (BitVec.ofNat 32 r.val)
          (Scalar.select (Scalar.cmpi CmpIPredicate.eq 16#32 0#32) 1#32 16#32))
      = BitVec.ofNat 32 (r.val % 16) := by
  decide +kernel

/-- The kernel's floor division by sixteen on words, with its sign corrections, is the quotient. -/
theorem div_word : ∀ r : Fin 1024,
    Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 r.val) 16#32) 0#32))
        (IntOp.subi (IntOp.divsi ArithUnit.vector (BitVec.ofNat 32 r.val) 16#32) 1#32)
        (IntOp.divsi ArithUnit.vector (BitVec.ofNat 32 r.val) 16#32)
      = BitVec.ofNat 32 (r.val / 16) := by
  decide +kernel

/-- A truth bit widened and read as a float is one or zero. -/
theorem bit_float (p : Prop) [Decidable p] :
    (FloatOps.sitofp (F := Ideal) FTy.f32 (BitVec.setWidth 32 (BitVec.ofBool (decide p))) : EReal)
      = if p then 1 else 0 := by
  by_cases h : p
  · simp only [h, decide_true, if_true]
    show (((BitVec.setWidth 32 (BitVec.ofBool true)).toInt : ℝ) : EReal) = 1
    rw [show (BitVec.setWidth 32 (BitVec.ofBool true)).toInt = 1 by decide]
    norm_num
  · simp only [h, decide_false, if_false]
    show (((BitVec.setWidth 32 (BitVec.ofBool false)).toInt : ℝ) : EReal) = 0
    rw [show (BitVec.setWidth 32 (BitVec.ofBool false)).toInt = 0 by decide]
    norm_num

/-- Two words of small numbers agree exactly when the numbers do. -/
theorem cmp_word {a b : Nat} (ha : a < 1024) (hb : b < 1024) :
    IntOp.cmpi CmpIPredicate.eq (BitVec.ofNat 32 a) (BitVec.ofNat 32 b)
      = BitVec.ofBool (decide (a = b)) :=
  WordCmp.cmpi_eq_ofNat (by omega) (by omega)

/-- The state a row of the block holds, out of sixteen. -/
def place (r : Fin 1024) : Fin 16 := ⟨r.val % 16, by omega⟩

/-- The batch row, out of the block's 64, that a row of the block belongs to. -/
def owner (r : Fin 1024) : Fin 64 := ⟨r.val / 16, by omega⟩

/-- The row of the block that holds state `s` of batch row `b`. -/
def rowOf (b : Fin 64) (s : Fin 16) : Fin 1024 := ⟨16 * b.val + s.val, by omega⟩

/-- The row of state `s` of batch row `b` belongs to `b`. -/
theorem owner_rowOf (b : Fin 64) (s : Fin 16) : owner (rowOf b s) = b :=
  Fin.ext (by simp only [owner, rowOf]; omega)

/-- The row of state `s` of batch row `b` holds state `s`. -/
theorem place_rowOf (b : Fin 64) (s : Fin 16) : place (rowOf b s) = s :=
  Fin.ext (by simp only [place, rowOf]; omega)

/-- A row is the row of its state of its batch row. -/
theorem rowOf_owner_place (r : Fin 1024) : rowOf (owner r) (place r) = r :=
  Fin.ext (by simp only [place, rowOf, owner]; omega)

/-- Row `r` is marked exactly when its id names the state it holds. -/
theorem mark_apply (v : Vec Ideal S1024x1 .i32) (r : Fin 1024) :
    k0_pay3 (F := Ideal) v (ix2 r 0)
      = BitVec.ofBool (decide (slot (v (ix2 r 0)) = place r)) := by
  pointwise [k0_pay3]
  rw [mod_word r]
  show IntOp.cmpi _ (clipWord _) _ = _
  rw [clipWord_eq, cmp_word (by omega) (by omega)]
  congr 1
  simp only [Fin.ext_iff, place]

/-- The masked states: a marked row keeps its entries, any other row is zero. -/
theorem masked_apply (x : FVec Ideal S1024x128 .f32) (v : Vec Ideal S1024x1 .i32)
    (r : Fin 1024) (l : Fin 128) :
    k0_pay4 (F := Ideal) x v (ix2 r l)
      = if slot (v (ix2 r 0)) = place r then x (ix2 r l) else 0 := by
  pointwise [k0_pay4, k0_pay2]
  rw [mark_apply, bit_float]
  split_ifs
  · exact mul_one _
  · exact mul_zero _

/-- The gather: batch row `b` sums the rows of the masked states it owns. -/
theorem gathered_apply (v : FVec Ideal S1024x128 .f32) (b : Fin 64) (l : Fin 128) :
    k0_pay7 (F := Ideal) v (iota .tc S64x1024 32 [1] iota_S64x1024_d1_w32) 16#32 k0_pay5 k0_pay6
        (Scalar.extui (Scalar.cmpi .sgt 16#32 0#32)) 0#32 (ix2 b l)
      = ∑ r : Fin 1024, if owner r = b then v (ix2 r l) else 0 := by
  pointwise [k0_pay7, k0_pay5, k0_pay6]
  refine Finset.sum_congr rfl fun r _ => ?_
  rw [div_word r, cmp_word (by omega) (by omega), bit_float]
  simp only [Fin.ext_iff, owner]
  split_ifs
  · exact one_mul _
  · exact zero_mul _

/-- A marked sum over the rows owned by `b` picks the one row that holds the named state, when every
    row owned by `b` carries the same id. -/
theorem gather_sum (x : FVec Ideal S1024x128 .f32) (v : Vec Ideal S1024x1 .i32) (b : Fin 64)
    (l : Fin 128) (w : BitVec 32) (hw : ∀ s : Fin 16, v (ix2 (rowOf b s) 0) = w) :
    (∑ r : Fin 1024, if owner r = b then
        (if slot (v (ix2 r 0)) = place r then x (ix2 r l) else (0 : EReal)) else 0)
      = x (ix2 (rowOf b (slot w)) l) := by
  rw [Finset.sum_eq_single (rowOf b (slot w))]
  · rw [if_pos (owner_rowOf _ _), place_rowOf, hw, if_pos rfl]
  · intro r _ hr
    by_cases ho : owner r = b
    · rw [if_pos ho]
      refine if_neg fun hs => hr ?_
      have e : rowOf b (place r) = r := by rw [← ho]; exact rowOf_owner_place r
      rw [← e, hw] at hs
      rw [place_rowOf] at hs
      rw [hs]
      exact e.symm
    · exact if_neg ho
  · exact fun h => absurd (Finset.mem_univ _) h

/-- The input projection of batch row `r`, at column `q`. -/
theorem input_proj_apply (u : Vec Ideal S64x128 .f32) (W : Vec Ideal S128x384 .f32)
    (b : Vec Ideal S1x384 .f32) (r : Fin 64) (q : Fin 384) :
    k0_pay8 (F := Ideal) u W b (ix2 r q)
      = proj (fun k => u (ix2 r k)) (fun q k => W (ix2 k q)) (fun q => b (ix2 0 q)) q := by
  pointwise [k0_pay8]
  rfl

/-- The gathered old states, one row for each batch row. -/
abbrev gathered (v : FVec Ideal S1024x128 .f32) : FVec Ideal S64x128 .f32 :=
  k0_pay7 (F := Ideal) v (iota .tc S64x1024 32 [1] iota_S64x1024_d1_w32) 16#32 k0_pay5 k0_pay6
    (Scalar.extui (Scalar.cmpi .sgt 16#32 0#32)) 0#32

/-- The hidden projection of batch row `r`, at column `q`, from the gathered state. -/
theorem hidden_proj_apply (v : FVec Ideal S1024x128 .f32) (W : Vec Ideal S128x384 .f32)
    (b : Vec Ideal S1x384 .f32) (r : Fin 64) (q : Fin 384) :
    k0_pay9 (F := Ideal) v (iota .tc S64x1024 32 [1] iota_S64x1024_d1_w32) 16#32 k0_pay5 k0_pay6
        (Scalar.extui (Scalar.cmpi .sgt 16#32 0#32)) 0#32 W b (ix2 r q)
      = proj (fun k => gathered v (ix2 r k)) (fun q k => W (ix2 k q)) (fun q => b (ix2 0 q)) q := by
  pointwise [k0_pay9]
  rfl

/-- The reset gate of batch row `r`. -/
theorem reset_apply (v : FVec Ideal S1024x128 .f32) (u : Vec Ideal S64x128 .f32)
    (Wi Wh : Vec Ideal S128x384 .f32) (bi bh : Vec Ideal S1x384 .f32) (r : Fin 64) (l : Fin 128) :
    k0_pay10 (F := Ideal) v (iota .tc S64x1024 32 [1] iota_S64x1024_d1_w32) 16#32 k0_pay5 k0_pay6
        (Scalar.extui (Scalar.cmpi .sgt 16#32 0#32)) 0#32 u Wi bi Wh bh (ix2 r l)
      = Ideal.logistic
          (proj (fun k => u (ix2 r k)) (fun q k => Wi (ix2 k q)) (fun q => bi (ix2 0 q)) (gate 0 l)
            + proj (fun k => gathered v (ix2 r k)) (fun q k => Wh (ix2 k q)) (fun q => bh (ix2 0 q)) (gate 0 l)) := by
  rw [← input_proj_apply, ← hidden_proj_apply]
  pointwise [k0_pay10]
  rw [show (⟨l.val, by omega⟩ : Fin 384) = gate 0 l from Fin.ext (by simp [gate])]

/-- The update gate of batch row `r`. -/
theorem update_apply (v : FVec Ideal S1024x128 .f32) (u : Vec Ideal S64x128 .f32)
    (Wi Wh : Vec Ideal S128x384 .f32) (bi bh : Vec Ideal S1x384 .f32) (r : Fin 64) (l : Fin 128) :
    k0_pay11 (F := Ideal) v (iota .tc S64x1024 32 [1] iota_S64x1024_d1_w32) 16#32 k0_pay5 k0_pay6
        (Scalar.extui (Scalar.cmpi .sgt 16#32 0#32)) 0#32 u Wi bi Wh bh (ix2 r l)
      = Ideal.logistic
          (proj (fun k => u (ix2 r k)) (fun q k => Wi (ix2 k q)) (fun q => bi (ix2 0 q)) (gate 1 l)
            + proj (fun k => gathered v (ix2 r k)) (fun q k => Wh (ix2 k q)) (fun q => bh (ix2 0 q)) (gate 1 l)) := by
  rw [← input_proj_apply, ← hidden_proj_apply]
  pointwise [k0_pay11]
  rw [show (⟨128 + l.val, by omega⟩ : Fin 384) = gate 1 l from rfl]

/-- The candidate's input part of batch row `r`. -/
theorem cand_in_apply (u : Vec Ideal S64x128 .f32) (W : Vec Ideal S128x384 .f32)
    (b : Vec Ideal S1x384 .f32) (r : Fin 64) (l : Fin 128) :
    k0_pay12 (F := Ideal) u W b (ix2 r l)
      = proj (fun k => u (ix2 r k)) (fun q k => W (ix2 k q)) (fun q => b (ix2 0 q)) (gate 2 l) := by
  rw [← input_proj_apply]
  pointwise [k0_pay12]
  rfl

/-- The candidate's hidden part of batch row `r`. -/
theorem cand_hidden_apply (v : FVec Ideal S1024x128 .f32) (W : Vec Ideal S128x384 .f32)
    (b : Vec Ideal S1x384 .f32) (r : Fin 64) (l : Fin 128) :
    k0_pay13 (F := Ideal) v (iota .tc S64x1024 32 [1] iota_S64x1024_d1_w32) 16#32 k0_pay5 k0_pay6
        (Scalar.extui (Scalar.cmpi .sgt 16#32 0#32)) 0#32 W b (ix2 r l)
      = proj (fun k => gathered v (ix2 r k)) (fun q k => W (ix2 k q)) (fun q => b (ix2 0 q)) (gate 2 l) := by
  rw [← hidden_proj_apply]
  pointwise [k0_pay13]
  rfl

/-- The stored block from the gates: a marked row takes its batch row's new state, any other row
    keeps its entries. -/
theorem stored_apply (x : FVec Ideal S1024x128 .f32) (mk : IVec S1024x1 1)
    (h g z i n : FVec Ideal S64x128 .f32) (r : Fin 1024) (l : Fin 128) :
    k0_pay1 (F := Ideal) x mk h g z i n (ix2 r l)
      = Scalar.select (mk (ix2 r 0))
          ((1 - z (ix2 (owner r) l)) * Ideal.tanh (i (ix2 (owner r) l) + g (ix2 (owner r) l) * n (ix2 (owner r) l))
            + z (ix2 (owner r) l) * h (ix2 (owner r) l)) (x (ix2 r l)) := by
  pointwise [k0_pay1]
  congr 1
  rw [Finset.sum_eq_single (owner r)]
  · rw [div_word r, cmp_word (by omega) (by omega), bit_float, if_pos (by simp only [owner])]
    exact one_mul _
  · intro b _ hb
    rw [div_word r, cmp_word (by omega) (by omega), bit_float,
      if_neg (fun e => hb (Fin.ext (by simp only [owner]; exact e.symm)))]
    exact zero_mul _
  · exact fun h => absurd (Finset.mem_univ _) h

/-- The offset of a load or store of a whole buffer is zero. -/
theorem whole_offset : (![0, 0] : Fin 2 → Nat) = fun _ => 0 := by
  ext a
  refine Fin.cases rfl (fun b => ?_) a
  rw [Subsingleton.elim b 0]
  rfl

/-- The block the kernel leaves, at row `r` and column `l`, when the rows of a batch row carry one
    id: the update of that batch row's table. -/
theorem block_apply (x0 : Vec Ideal S1024x128 .f32) (x1 : Vec Ideal S64x128 .f32)
    (x2 x3 : Vec Ideal S128x384 .f32) (x4 x5 : Vec Ideal S1x384 .f32) (x6 : Vec Ideal S1024x1 .i32)
    (w : Fin 64 → BitVec 32) (hw : ∀ b s, x6 (ix2 (rowOf b s) 0) = w b) (b : Fin 64) (s : Fin 16)
    (l : Fin 128) :
    out0_7 (F := Ideal) x0 x1 x2 x3 x4 x5 x6 (ix2 (rowOf b s) l)
      = update (fun q k => x2 (ix2 k q)) (fun q k => x3 (ix2 k q)) (fun q => x4 (ix2 0 q))
          (fun q => x5 (ix2 0 q)) (fun s k => x0 (ix2 (rowOf b s) k)) (fun k => x1 (ix2 b k)) (w b) s l := by
  have hg : ∀ k, gathered (k0_pay4 (F := Ideal) x0 x6) (ix2 b k) = x0 (ix2 (rowOf b (slot (w b))) k) := by
    intro k
    rw [gathered, gathered_apply]
    simp only [masked_apply]
    exact gather_sum x0 x6 b k (w b) (hw b)
  unfold_out out0_7
  rw [View.canon_unit_zero (S := S1024x128) whole_offset, View.ld_unit_zero (S := S1024x128) whole_offset,
    View.ld_unit_zero (S := S1024x1) whole_offset, View.ld_unit_zero (S := S64x128) whole_offset,
    View.ld_unit_zero (S := S128x384) whole_offset, View.ld_unit_zero (S := S128x384) whole_offset,
    View.ld_unit_zero (S := S1x384) whole_offset, View.ld_unit_zero (S := S1x384) whole_offset]
  rw [stored_apply, owner_rowOf, reset_apply, update_apply, cand_in_apply, cand_hidden_apply]
  rw [show k0_pay2 (F := Ideal) x0 (ix2 (rowOf b s) l) = x0 (ix2 (rowOf b s) l) by
    pointwise [k0_pay2]]
  rw [mark_apply, hw, place_rowOf, WordCmp.select_decide]
  simp only [hg]
  rfl

end Cert.Gru
-- ==== Proof.Entry.lean ====
module
public import proofs.«01_k».proof.Proof.Gen.KernelIdeal.Value
public import proofs.«01_k».proof.Proof.Spec
@[expose] public section
set_option maxRecDepth 16384
noncomputable section

/-!
The arrays the kernel's blocks are cut from, in terms of the arguments.

Before the blocks run, the state table is flattened to rows, each id is repeated over its sixteen
rows, the weights are transposed and the biases become one-row arrays.
-/

namespace Cert.Gru

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The flattened states are the state argument, reshaped. -/
theorem entry_states : V m c main_v0
    = shapeCast S262144x128 (m ((c : Thread nD τ).loc main_arg0)) shapeCasts_S16384x16x128_S262144x128 := by
  simp only [V, hostOps0]
  after_results_simp
  rfl

/-- The repeated ids are the id argument, repeated over sixteen columns and flattened. -/
theorem entry_ids : V m c main_v3
    = shapeCast S262144x1 (broadcastInDim S16384x16 ![0, 1] bcast_S16384x1_S16384x16_0_1
        (broadcastInDim S16384x1 ![0] bcast_S16384_S16384x1_0 (m ((c : Thread nD τ).loc main_arg6))))
        shapeCasts_S16384x16_S262144x1 := by
  simp only [V, hostOps0]
  after_results_simp
  rfl

/-- The transposed input weight. -/
theorem entry_wi : V m c main_v4
    = transpose S128x384 [1, 0] (m ((c : Thread nD τ).loc main_arg2)) transposes_S384x128_S128x384_1_0 := by
  simp only [V, hostOps0]
  after_results_simp

/-- The transposed hidden weight. -/
theorem entry_wh : V m c main_v5
    = transpose S128x384 [1, 0] (m ((c : Thread nD τ).loc main_arg3)) transposes_S384x128_S128x384_1_0 := by
  simp only [V, hostOps0]
  after_results_simp

/-- The input bias as one row. -/
theorem entry_bi : V m c main_v6
    = shapeCast S1x384 (m ((c : Thread nD τ).loc main_arg4)) shapeCasts_S384_S1x384 := by
  simp only [V, hostOps0]
  after_results_simp
  rfl

/-- The hidden bias as one row. -/
theorem entry_bh : V m c main_v7
    = shapeCast S1x384 (m ((c : Thread nD τ).loc main_arg5)) shapeCasts_S384_S1x384 := by
  simp only [V, hostOps0]
  after_results_simp
  rfl

/-- Row `i` of the flattened states is the state row it names in the argument. -/
theorem states_flat (x : FVec Ideal S16384x16x128 .f32) (i : Fin 262144) (l : Fin 128) :
    shapeCast S262144x128 x shapeCasts_S16384x16x128_S262144x128 (ix2 i l)
      = x (ix3 (batchOf i) (stateOf i) l) := by
  pointwise
  rfl

/-- Row `i` of the flattened ids is the id of its batch row. -/
theorem ids_flat (x : IVec S16384 32) (i : Fin 262144) :
    shapeCast S262144x1 (broadcastInDim S16384x16 ![0, 1] bcast_S16384x1_S16384x16_0_1
        (broadcastInDim S16384x1 ![0] bcast_S16384_S16384x1_0 x)) shapeCasts_S16384x16_S262144x1 (ix2 i 0)
      = x (ix1 (batchOf i)) := by
  pointwise
  rfl

/-- A transposed weight read at `(k, q)` is the weight at `(q, k)`. -/
theorem weight_t (x : FVec Ideal S384x128 .f32) (k : Fin 128) (q : Fin 384) :
    transpose S128x384 [1, 0] x transposes_S384x128_S128x384_1_0 (ix2 k q) = x (ix2 q k) := by
  pointwise

/-- A bias laid out as one row reads the bias. -/
theorem bias_row (x : FVec Ideal S384 .f32) (q : Fin 384) :
    shapeCast S1x384 x shapeCasts_S384_S1x384 (ix2 0 q) = x (ix1 q) := by
  pointwise

end Cert.Gru
-- ==== Proof.Array.lean ====
module
public import proofs.«01_k».proof.Proof.Block
public import proofs.«01_k».proof.Proof.Entry
@[expose] public section
set_option maxRecDepth 16384
noncomputable section

/-!
The array the kernel leaves.

Point `t` of the grid works on rows `1024 t … 1024 t + 1023` of the flattened table, that is on
batch rows `64 t … 64 t + 63`. Each point writes its block of the updated table and the blocks fill
the array.
-/

namespace Cert.Gru

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-! ## Where each window's block lies -/

/-- The state window's block at point `t` is block `t` down the rows. -/
theorem lies0 : ∀ t : Fin cfg0.N, win0_0.index t 0 = t.val ∧ win0_0.index t 1 = 0 :=
  (by decide +kernel : ∀ t : Fin grid0.N, win0_0.index t 0 = t.val ∧ win0_0.index t 1 = 0)
/-- The dialogue window's block at point `t` is block `t` down the rows. -/
theorem lies1 : ∀ t : Fin cfg0.N, win0_1.index t 0 = t.val ∧ win0_1.index t 1 = 0 :=
  (by decide +kernel : ∀ t : Fin grid0.N, win0_1.index t 0 = t.val ∧ win0_1.index t 1 = 0)
/-- The input weight window's block is the whole array at every point. -/
theorem lies2 : ∀ t : Fin cfg0.N, win0_2.index t 0 = 0 ∧ win0_2.index t 1 = 0 :=
  (by decide +kernel : ∀ t : Fin grid0.N, win0_2.index t 0 = 0 ∧ win0_2.index t 1 = 0)
/-- The hidden weight window's block is the whole array at every point. -/
theorem lies3 : ∀ t : Fin cfg0.N, win0_3.index t 0 = 0 ∧ win0_3.index t 1 = 0 :=
  (by decide +kernel : ∀ t : Fin grid0.N, win0_3.index t 0 = 0 ∧ win0_3.index t 1 = 0)
/-- The input bias window's block is the whole array at every point. -/
theorem lies4 : ∀ t : Fin cfg0.N, win0_4.index t 0 = 0 ∧ win0_4.index t 1 = 0 :=
  (by decide +kernel : ∀ t : Fin grid0.N, win0_4.index t 0 = 0 ∧ win0_4.index t 1 = 0)
/-- The hidden bias window's block is the whole array at every point. -/
theorem lies5 : ∀ t : Fin cfg0.N, win0_5.index t 0 = 0 ∧ win0_5.index t 1 = 0 :=
  (by decide +kernel : ∀ t : Fin grid0.N, win0_5.index t 0 = 0 ∧ win0_5.index t 1 = 0)
/-- The id window's block at point `t` is block `t` down the rows. -/
theorem lies6 : ∀ t : Fin cfg0.N, win0_6.index t 0 = t.val ∧ win0_6.index t 1 = 0 :=
  (by decide +kernel : ∀ t : Fin grid0.N, win0_6.index t 0 = t.val ∧ win0_6.index t 1 = 0)
/-- The result window's block at point `t` is block `t` down the rows. -/
theorem lies7 : ∀ t : Fin cfg0.N, win0_7.index t 0 = t.val ∧ win0_7.index t 1 = 0 :=
  (by decide +kernel : ∀ t : Fin grid0.N, win0_7.index t 0 = t.val ∧ win0_7.index t 1 = 0)

/-- The grid has 256 points. -/
theorem point_lt (t : Fin cfg0.N) : t.val < 256 := by
  have h : cfg0.N = 256 := N_0
  have := t.isLt
  omega

/-- The row of the flattened table at row `r` of point `t`'s block. -/
def rowAt (t : Fin cfg0.N) (r : Fin 1024) : Fin 262144 :=
  ⟨1024 * t.val + r.val, by have := point_lt t; omega⟩

/-- The batch row at row `b` of point `t`'s block. -/
def batchAt (t : Fin cfg0.N) (b : Fin 64) : Fin 16384 :=
  ⟨64 * t.val + b.val, by have := point_lt t; omega⟩

/-- The rows of batch row `b` in point `t`'s block belong to that batch row of the table. -/
theorem batchOf_rowAt (t : Fin cfg0.N) (b : Fin 64) (s : Fin 16) :
    batchOf (rowAt t (rowOf b s)) = batchAt t b :=
  Fin.ext (by simp only [batchOf, rowAt, rowOf, batchAt]; omega)

/-- The row of state `s` in a block holds state `s` in the table. -/
theorem stateOf_rowAt (t : Fin cfg0.N) (b : Fin 64) (s : Fin 16) :
    stateOf (rowAt t (rowOf b s)) = s :=
  Fin.ext (by simp only [stateOf, rowAt, rowOf]; omega)

/-- The state block at point `t` holds the state rows of the point's batch rows. -/
theorem block_states (t : Fin cfg0.N) (r : Fin 1024) (l : Fin 128) :
    (iblk m c 0 t : Vec Ideal S1024x128 .f32) (ix2 r l)
      = m ((c : Thread nD τ).loc main_arg0) (ix3 (batchOf (rowAt t r)) (stateOf (rowAt t r)) l) := by
  refine Eq.trans ?_ ((congrFun (entry_states m c) _).trans (states_flat _ (rowAt t r) l))
  obtain ⟨e0, e1⟩ := lies0 t
  show V m c main_v0 (((cfg0.win 0).blk t).view.emb (ix2 r l)) = V m c main_v0 _
  congr 1
  funext a; apply Fin.ext
  match a with
  | ⟨0, _⟩ => show win0_0.index t (0 : Fin 2) * 1024 + 1 * r.val = 1024 * t.val + r.val; omega
  | ⟨1, _⟩ => show win0_0.index t (1 : Fin 2) * 128 + 1 * l.val = l.val; omega

/-- The dialogue block at point `t` holds the dialogue vectors of the point's batch rows. -/
theorem block_inputs (t : Fin cfg0.N) (b : Fin 64) (l : Fin 128) :
    (iblk m c 1 t : Vec Ideal S64x128 .f32) (ix2 b l)
      = m ((c : Thread nD τ).loc main_arg1) (ix2 (batchAt t b) l) := by
  refine Eq.trans ?_ (congrFun (V_main_arg1 m c) _)
  obtain ⟨e0, e1⟩ := lies1 t
  show V m c main_arg1 (((cfg0.win 1).blk t).view.emb (ix2 b l)) = V m c main_arg1 _
  congr 1
  funext a; apply Fin.ext
  match a with
  | ⟨0, _⟩ => show win0_1.index t (0 : Fin 2) * 64 + 1 * b.val = 64 * t.val + b.val; omega
  | ⟨1, _⟩ => show win0_1.index t (1 : Fin 2) * 128 + 1 * l.val = l.val; omega

/-- The input weight's block is the whole transposed weight. -/
theorem block_wi (t : Fin cfg0.N) (k : Fin 128) (q : Fin 384) :
    (iblk m c 2 t : Vec Ideal S128x384 .f32) (ix2 k q)
      = m ((c : Thread nD τ).loc main_arg2) (ix2 q k) := by
  refine Eq.trans ?_ ((congrFun (entry_wi m c) _).trans (weight_t _ k q))
  obtain ⟨e0, e1⟩ := lies2 t
  show V m c main_v4 (((cfg0.win 2).blk t).view.emb (ix2 k q)) = V m c main_v4 _
  congr 1
  funext a; apply Fin.ext
  match a with
  | ⟨0, _⟩ => show win0_2.index t (0 : Fin 2) * 128 + 1 * k.val = k.val; omega
  | ⟨1, _⟩ => show win0_2.index t (1 : Fin 2) * 384 + 1 * q.val = q.val; omega

/-- The hidden weight's block is the whole transposed weight. -/
theorem block_wh (t : Fin cfg0.N) (k : Fin 128) (q : Fin 384) :
    (iblk m c 3 t : Vec Ideal S128x384 .f32) (ix2 k q)
      = m ((c : Thread nD τ).loc main_arg3) (ix2 q k) := by
  refine Eq.trans ?_ ((congrFun (entry_wh m c) _).trans (weight_t _ k q))
  obtain ⟨e0, e1⟩ := lies3 t
  show V m c main_v5 (((cfg0.win 3).blk t).view.emb (ix2 k q)) = V m c main_v5 _
  congr 1
  funext a; apply Fin.ext
  match a with
  | ⟨0, _⟩ => show win0_3.index t (0 : Fin 2) * 128 + 1 * k.val = k.val; omega
  | ⟨1, _⟩ => show win0_3.index t (1 : Fin 2) * 384 + 1 * q.val = q.val; omega

/-- The input bias's block is the whole bias. -/
theorem block_bi (t : Fin cfg0.N) (q : Fin 384) :
    (iblk m c 4 t : Vec Ideal S1x384 .f32) (ix2 0 q)
      = m ((c : Thread nD τ).loc main_arg4) (ix1 q) := by
  refine Eq.trans ?_ ((congrFun (entry_bi m c) _).trans (bias_row _ q))
  obtain ⟨e0, e1⟩ := lies4 t
  show V m c main_v6 (((cfg0.win 4).blk t).view.emb (ix2 0 q)) = V m c main_v6 _
  congr 1
  funext a; apply Fin.ext
  match a with
  | ⟨0, _⟩ => show win0_4.index t (0 : Fin 2) * 1 + 1 * 0 = 0; omega
  | ⟨1, _⟩ => show win0_4.index t (1 : Fin 2) * 384 + 1 * q.val = q.val; omega

/-- The hidden bias's block is the whole bias. -/
theorem block_bh (t : Fin cfg0.N) (q : Fin 384) :
    (iblk m c 5 t : Vec Ideal S1x384 .f32) (ix2 0 q)
      = m ((c : Thread nD τ).loc main_arg5) (ix1 q) := by
  refine Eq.trans ?_ ((congrFun (entry_bh m c) _).trans (bias_row _ q))
  obtain ⟨e0, e1⟩ := lies5 t
  show V m c main_v7 (((cfg0.win 5).blk t).view.emb (ix2 0 q)) = V m c main_v7 _
  congr 1
  funext a; apply Fin.ext
  match a with
  | ⟨0, _⟩ => show win0_5.index t (0 : Fin 2) * 1 + 1 * 0 = 0; omega
  | ⟨1, _⟩ => show win0_5.index t (1 : Fin 2) * 384 + 1 * q.val = q.val; omega

/-- The id block at point `t` holds each batch row's id at each of its rows. -/
theorem block_ids (t : Fin cfg0.N) (r : Fin 1024) :
    (iblk m c 6 t : Vec Ideal S1024x1 .i32) (ix2 r 0)
      = m ((c : Thread nD τ).loc main_arg6) (ix1 (batchOf (rowAt t r))) := by
  refine Eq.trans ?_ ((congrFun (entry_ids m c) _).trans (ids_flat _ (rowAt t r)))
  obtain ⟨e0, e1⟩ := lies6 t
  show V m c main_v3 (((cfg0.win 6).blk t).view.emb (ix2 r 0)) = V m c main_v3 _
  congr 1
  funext a; apply Fin.ext
  match a with
  | ⟨0, _⟩ => show win0_6.index t (0 : Fin 2) * 1024 + 1 * r.val = 1024 * t.val + r.val; omega
  | ⟨1, _⟩ => show win0_6.index t (1 : Fin 2) * 1 + 1 * 0 = 0; omega

/-! ## The result -/

/-- The updated table of the arguments, as the result array holds it. -/
def result : FVec Ideal S262144x128 .f32 := fun i =>
  table (fun b s k => m ((c : Thread nD τ).loc main_arg0) (ix3 b s k))
    (fun b k => m ((c : Thread nD τ).loc main_arg1) (ix2 b k))
    (fun q k => m ((c : Thread nD τ).loc main_arg2) (ix2 q k))
    (fun q k => m ((c : Thread nD τ).loc main_arg3) (ix2 q k))
    (fun q => m ((c : Thread nD τ).loc main_arg4) (ix1 q))
    (fun q => m ((c : Thread nD τ).loc main_arg5) (ix1 q))
    (fun b => m ((c : Thread nD τ).loc main_arg6) (ix1 b)) (i 0) (i 1)

/-- What the body leaves at point `t`, row `r` and column `l`, is the updated table at the row. -/
theorem left_apply (t : Fin cfg0.N) (r : Fin 1024) (l : Fin 128) :
    out0_7 (F := Ideal) (iblk m c 0 t) (iblk m c 1 t) (iblk m c 2 t) (iblk m c 3 t) (iblk m c 4 t)
        (iblk m c 5 t) (iblk m c 6 t) (ix2 r l)
      = result m c (ix2 (rowAt t r) l) := by
  obtain ⟨b, s, rfl⟩ : ∃ b s, r = rowOf b s := ⟨owner r, place r, (rowOf_owner_place r).symm⟩
  rw [block_apply _ _ _ _ _ _ _ (fun b => m ((c : Thread nD τ).loc main_arg6) (ix1 (batchAt t b)))
    (fun b s => by rw [block_ids, batchOf_rowAt])]
  show _ = table _ _ _ _ _ _ _ (rowAt t (rowOf b s)) l
  unfold table
  rw [batchOf_rowAt, stateOf_rowAt]
  simp only [block_states, block_inputs, block_wi, block_wh, block_bi, block_bh, batchOf_rowAt,
    stateOf_rowAt]

/-- What point `t` writes back is its block of the updated table. -/
theorem flushed_eq (t : Fin cfg0.N) :
    (dats m 0 c).flushed 7 t = ((cfg0.win 7).blk t).view.read (Elt Ideal) (result m c) := by
  rw [Cert.KernelIdeal.Value.flushed7]
  funext j
  obtain ⟨e0, e1⟩ := lies7 t
  obtain ⟨r, l, rfl⟩ : ∃ (r : Fin 1024) (l : Fin 128), j = ix2 r l :=
    ⟨j 0, j 1, funext fun a => by fin_cases a <;> rfl⟩
  show out0_7 (F := Ideal) (iblk m c 0 t) (iblk m c 1 t) (iblk m c 2 t) (iblk m c 3 t) (iblk m c 4 t)
        (iblk m c 5 t) (iblk m c 6 t) (ix2 r l)
      = result m c (((cfg0.win 7).blk t).view.emb (ix2 r l))
  rw [left_apply]
  congr 1
  funext a; apply Fin.ext
  match a with
  | ⟨0, _⟩ => show 1024 * t.val + r.val = win0_7.index t (0 : Fin 2) * 1024 + 1 * r.val; omega
  | ⟨1, _⟩ => show l.val = win0_7.index t (1 : Fin 2) * 128 + 1 * l.val; omega

/-- Every index of the result is in the block of the point its row falls to. -/
theorem cover (i : S262144x128.Idx) :
    ∃ t : Fin cfg0.N, (cfg0.win 7).flush t = true ∧ i ∈ ((cfg0.win 7).blk t).view.set := by
  have h0 : (i 0 : Nat) < 262144 := (i 0).isLt
  have h1 : (i 1 : Nat) < 128 := (i 1).isLt
  have hN : cfg0.N = 256 := N_0
  refine ⟨⟨(i 0 : Nat) / 1024, by omega⟩, flush0_7 _, ?_⟩
  generalize ht : (⟨(i 0 : Nat) / 1024, by omega⟩ : Fin cfg0.N) = t
  have hv : (i 0 : Nat) / 1024 = t.val := by rw [← ht]
  obtain ⟨e0, e1⟩ := lies7 t
  show i ∈ ((View.whole main_v8).slice (win0_7.rect t)).set
  rw [View.set_slice_whole, Rect.mem_set_unit]
  intro a
  match a with
  | ⟨0, _⟩ =>
    show win0_7.index t 0 * 1024 ≤ (i 0 : Nat) ∧ (i 0 : Nat) < win0_7.index t 0 * 1024 + 1024
    omega
  | ⟨1, _⟩ =>
    show win0_7.index t 1 * 128 ≤ (i 1 : Nat) ∧ (i 1 : Nat) < win0_7.index t 1 * 128 + 128
    omega

/-- The kernel's result array ends holding the updated table. -/
theorem final : (dats m 0 c).arrAt 7 cfg0.N = result m c :=
  (dats m 0 c).arrAt_eq_of_cover 7 (result m c) (fun t _ => flushed_eq m c t) cover

end Cert.Gru
-- ==== Proof.Index.lean ====
module
public import proofs.«01_k».proof.Proof.Gen.ReferenceIdeal.Run
public import proofs.«01_k».proof.Proof.Spec
public import Idealize.ShloMosaic.Lib.Routing.OpsSet
public import Idealize.ShloMosaic.Lib.Routing.OpsPair
@[expose] public section
set_option maxRecDepth 16384
noncomputable section

/-!
Reading and writing the named state of every batch row.

The reference addresses the state table with pairs of words, a batch row and a state. When pair
`b` is `(b, s b)` with `s b` below sixteen, the gather reads state `s b` of each batch row and the
scatter replaces exactly that state.
-/

namespace Cert.Gru

open Cert.ReferenceIdeal Cert.ReferenceIdeal.Gen
open Idealize.ShloMosaic

/-- A word of a number below 16384, read signed, is the number. -/
theorem toInt_small {n : Nat} (h : n < 16384) : (BitVec.ofNat 32 n).toInt = (n : Int) :=
  WordCmp.toInt_ofNat_of_lt (by omega)

/-- The pairs of words address state `s b` of batch row `b`. -/
structure Addresses (idx : IVec S16384x2 32) (s : Fin 16384 → Fin 16) : Prop where
  row : ∀ b : Fin 16384, idx (ix2 b 0) = BitVec.ofNat 32 b.val
  state : ∀ b : Fin 16384, idx (ix2 b 1) = BitVec.ofNat 32 (s b).val

/-- The gather reads the addressed state of each batch row. -/
theorem gather_apply (x : FVec Ideal S16384x16x128 .f32) (idx : IVec S16384x2 32)
    (s : Fin 16384 → Fin 16) (h : Addresses idx s) (b : Fin 16384) (l : Fin 128) :
    Host.gather gather_S16384x16x128_S16384x2_S16384x128_1_01_n_n_01_1_11128 x idx (ix2 b l)
      = x (ix3 b (s b) l) := by
  unfold Host.gather
  congr 1
  funext a
  refine Fin.ext ?_
  show (gather_S16384x16x128_S16384x2_S16384x128_1_01_n_n_01_1_11128).start (ix2 b l) idx a
    + (gather_S16384x16x128_S16384x2_S16384x128_1_01_n_n_01_1_11128).batchCoord (ix2 b l) a
    + (gather_S16384x16x128_S16384x2_S16384x128_1_01_n_n_01_1_11128).offCoord (ix2 b l) a = _
  rw [GatherDims.batchCoord_eq_zero _ _ _ (List.not_mem_nil)]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (by decide))]
    unfold GatherDims.start
    rw [dif_pos (by decide)]
    have e : (gather_S16384x16x128_S16384x2_S16384x128_1_01_n_n_01_1_11128).siIdx (ix2 b l) ⟨0, by decide⟩
        = ix2 b 0 := by
      funext q; refine Fin.ext ?_
      match q with
      | ⟨0, _⟩ => rfl
      | ⟨1, _⟩ => rfl
    show min (idx ((gather_S16384x16x128_S16384x2_S16384x128_1_01_n_n_01_1_11128).siIdx (ix2 b l) ⟨0, by decide⟩)).toInt.toNat
      (16384 - 1) + 0 + 0 = b.val
    rw [e, h.row, toInt_small b.isLt]
    omega
  · rw [GatherDims.offCoord_eq_zero _ _ _ (fun h => ((GatherDims.mem_sKept _ _).mp h).1 (by decide))]
    unfold GatherDims.start
    rw [dif_pos (by decide)]
    have e : (gather_S16384x16x128_S16384x2_S16384x128_1_01_n_n_01_1_11128).siIdx (ix2 b l) ⟨1, by decide⟩
        = ix2 b 1 := by
      funext q; refine Fin.ext ?_
      match q with
      | ⟨0, _⟩ => rfl
      | ⟨1, _⟩ => rfl
    show min (idx ((gather_S16384x16x128_S16384x2_S16384x128_1_01_n_n_01_1_11128).siIdx (ix2 b l) ⟨1, by decide⟩)).toInt.toNat
      (16 - 1) + 0 + 0 = (s b).val
    rw [e, h.state, toInt_small (by omega)]
    omega
  · unfold GatherDims.start
    rw [dif_neg (by decide)]
    show 0 + 0 + l.val = l.val
    omega

/-- Update `(b', l')` of the scatter lands at state `s b'` of batch row `b'`, at entry `l'`. -/
theorem lands_iff (idx : IVec S16384x2 32) (s : Fin 16384 → Fin 16) (h : Addresses idx s)
    (b' : Fin 16384) (l' : Fin 128) (b : Fin 16384) (q : Fin 16) (l : Fin 128) :
    (scatter_S16384x16x128_S16384x2_S16384x128_1_01_01_1).resultIdx? (ix2 b' l') idx
        = some (ix3 b q l) ↔ b' = b ∧ s b' = q ∧ l' = l := by
  have e0 : (scatter_S16384x16x128_S16384x2_S16384x128_1_01_01_1).start (ix2 b' l') idx 0 = (b'.val : Int) := by
    unfold ScatterDims.start
    rw [dif_pos (by decide)]
    have e : (scatter_S16384x16x128_S16384x2_S16384x128_1_01_01_1).siIdx (ix2 b' l') ⟨0, by decide⟩ = ix2 b' 0 := by
      funext q; refine Fin.ext ?_
      match q with
      | ⟨0, _⟩ => rfl
      | ⟨1, _⟩ => rfl
    show (idx ((scatter_S16384x16x128_S16384x2_S16384x128_1_01_01_1).siIdx (ix2 b' l') ⟨0, by decide⟩)).toInt = _
    rw [e, h.row, toInt_small b'.isLt]
  have e1 : (scatter_S16384x16x128_S16384x2_S16384x128_1_01_01_1).start (ix2 b' l') idx 1 = ((s b').val : Int) := by
    unfold ScatterDims.start
    rw [dif_pos (by decide)]
    have e : (scatter_S16384x16x128_S16384x2_S16384x128_1_01_01_1).siIdx (ix2 b' l') ⟨1, by decide⟩ = ix2 b' 1 := by
      funext q; refine Fin.ext ?_
      match q with
      | ⟨0, _⟩ => rfl
      | ⟨1, _⟩ => rfl
    show (idx ((scatter_S16384x16x128_S16384x2_S16384x128_1_01_01_1).siIdx (ix2 b' l') ⟨1, by decide⟩)).toInt = _
    rw [e, h.state, toInt_small (by omega)]
  have e2 : (scatter_S16384x16x128_S16384x2_S16384x128_1_01_01_1).start (ix2 b' l') idx 2 = 0 := by
    unfold ScatterDims.start
    rw [dif_neg (by decide)]
  have w0 : (scatter_S16384x16x128_S16384x2_S16384x128_1_01_01_1).window (ix2 b' l') 0 = 0 := by
    unfold ScatterDims.window
    rw [dif_neg (by decide)]
  have w1 : (scatter_S16384x16x128_S16384x2_S16384x128_1_01_01_1).window (ix2 b' l') 1 = 0 := by
    unfold ScatterDims.window
    rw [dif_neg (by decide)]
  have w2 : (scatter_S16384x16x128_S16384x2_S16384x128_1_01_01_1).window (ix2 b' l') 2 = l'.val := by
    unfold ScatterDims.window
    rw [dif_pos (by decide)]
    rfl
  rw [Routing.resultIdx?_eq_some]
  constructor
  · intro H
    have h0 := H 0
    have h1 := H 1
    have h2 := H 2
    rw [e0, w0] at h0
    rw [e1, w1] at h1
    rw [e2, w2] at h2
    have v0 : ((ix3 b q l : S16384x16x128.Idx) 0).val = b.val := rfl
    have v1 : ((ix3 b q l : S16384x16x128.Idx) 1).val = q.val := rfl
    have v2 : ((ix3 b q l : S16384x16x128.Idx) 2).val = l.val := rfl
    refine ⟨Fin.ext ?_, Fin.ext ?_, Fin.ext ?_⟩ <;> omega
  · rintro ⟨rfl, rfl, rfl⟩ a
    match a with
    | ⟨0, _⟩ => rw [show (⟨0, by decide⟩ : Fin S16384x16x128.rank) = 0 from rfl, e0, w0]; rfl
    | ⟨1, _⟩ => rw [show (⟨1, by decide⟩ : Fin S16384x16x128.rank) = 1 from rfl, e1, w1]; rfl
    | ⟨2, _⟩ => rw [show (⟨2, by decide⟩ : Fin S16384x16x128.rank) = 2 from rfl, e2, w2]; simp

/-- The scatter replaces the addressed state of each batch row and keeps every other. -/
theorem scatter_apply (x : FVec Ideal S16384x16x128 .f32) (idx : IVec S16384x2 32)
    (u : FVec Ideal S16384x128 .f32) (s : Fin 16384 → Fin 16) (h : Addresses idx s)
    (b : Fin 16384) (q : Fin 16) (l : Fin 128) :
    Host.scatter scatter_S16384x16x128_S16384x2_S16384x128_1_01_01_1 (fun _ b => b) x idx u (ix3 b q l)
      = if s b = q then u (ix2 b l) else x (ix3 b q l) := by
  have split : ∀ k : S16384x128.Idx, ∃ (b' : Fin 16384) (l' : Fin 128), k = ix2 b' l' := fun k =>
    ⟨k 0, k 1, funext fun a => by fin_cases a <;> rfl⟩
  by_cases hs : s b = q
  · rw [if_pos hs]
    refine Routing.scatter_set_hit _ x idx u _ _ (fun k hk => ?_) (ix2 b l)
      ((lands_iff idx s h b l b q l).mpr ⟨rfl, hs, rfl⟩)
    obtain ⟨b', l', rfl⟩ := split k
    obtain ⟨rfl, -, rfl⟩ := (lands_iff idx s h b' l' b q l).mp hk
    rfl
  · rw [if_neg hs]
    refine Routing.scatter_set_miss _ x idx u _ fun k hk => ?_
    obtain ⟨b', l', rfl⟩ := split k
    obtain ⟨rfl, e, -⟩ := (lands_iff idx s h b' l' b q l).mp hk
    exact hs e

end Cert.Gru
-- ==== Proof.Reference.lean ====
module
public import proofs.«01_k».proof.Proof.Index
@[expose] public section
set_option maxRecDepth 16384
noncomputable section

/-!
What the reference computes: the updated state table, index by index.
-/

namespace Cert.Gru

open Cert.ReferenceIdeal Cert.ReferenceIdeal.Gen
open Idealize.ShloMosaic Idealize.ShloMosaic.TcCoe Idealize.SL.Sem

/-- The batch row of each pair of words: its own number, a negative one wrapped round. -/
abbrev rowWords : IVec S16384 32 :=
  select (cmpi .slt (iotaInDim S16384 32 0) (broadcastInDim S16384 ![] bcast_S_S16384 (constantI S_ 32 0#32)))
    (addi (iotaInDim S16384 32 0) (broadcastInDim S16384 ![] bcast_S_S16384 (constantI S_ 32 16384#32)))
    (iotaInDim S16384 32 0)

/-- The ids clipped to `0 … 15`. -/
abbrev clipWords (ids : IVec S16384 32) : IVec S16384 32 :=
  minsi (broadcastInDim S16384 ![] bcast_S_S16384 (id (constantI S_ 32 15#32)))
    (maxsi (broadcastInDim S16384 ![] bcast_S_S16384 (id (constantI S_ 32 0#32))) ids)

/-- The state of each pair of words: the clipped id, a negative one wrapped round. -/
abbrev stateWords (ids : IVec S16384 32) : IVec S16384 32 :=
  select (cmpi .slt (clipWords ids) (broadcastInDim S16384 ![] bcast_S_S16384 (constantI S_ 32 0#32)))
    (addi (clipWords ids) (broadcastInDim S16384 ![] bcast_S_S16384 (constantI S_ 32 16#32)))
    (clipWords ids)

/-- The pairs of words, batch row then state. -/
abbrev pairs (ids : IVec S16384 32) : IVec S16384x2 32 :=
  concatenate S16384x2 1 [⟨S16384x1, (broadcastInDim S16384x1 ![0] bcast_S16384_S16384x1_0 rowWords)⟩,
    ⟨S16384x1, (broadcastInDim S16384x1 ![0] bcast_S16384_S16384x1_0 (stateWords ids))⟩]
    concatenates_S16384x1_S16384x1_S16384x2_d1

/-- A number below 16384 is not negative as a word, so it is not wrapped round. -/
theorem not_negative {n : Nat} (h : n < 16384) (y : BitVec 32) :
    Scalar.select (IntOp.cmpi CmpIPredicate.slt (BitVec.ofNat 32 n) 0#32) y (BitVec.ofNat 32 n)
      = BitVec.ofNat 32 n := by
  rw [show (0#32 : BitVec 32) = BitVec.ofNat 32 0 from rfl,
    WordCmp.cmpi_slt_ofNat (by omega) (by omega), WordCmp.select_decide, if_neg (by omega)]

/-- The batch row word of pair `b` is `b`. -/
theorem row_word (b : Fin 16384) : rowWords (ix1 b) = BitVec.ofNat 32 b.val := by
  pointwise [rowWords]
  exact not_negative b.isLt _

/-- The state word of pair `b` is the state its id names. -/
theorem state_word (ids : IVec S16384 32) (b : Fin 16384) :
    stateWords ids (ix1 b) = BitVec.ofNat 32 (slot (ids (ix1 b))).val := by
  pointwise [stateWords, clipWords]
  show Scalar.select (IntOp.cmpi CmpIPredicate.slt (clipWord (ids (ix1 b))) 0#32)
    (IntOp.addi (clipWord (ids (ix1 b))) 16#32) (clipWord (ids (ix1 b))) = _
  rw [clipWord_eq]
  exact not_negative (by omega) _

/-- The pairs address, in each batch row, the state its id names. -/
theorem pairs_address (ids : IVec S16384 32) : Addresses (pairs ids) fun b => slot (ids (ix1 b)) where
  row b := by
    refine Eq.trans ?_ (row_word b)
    pointwise [pairs]
  state b := by
    refine Eq.trans ?_ (state_word ids b)
    pointwise [pairs]

/-- The reference's linear layer. -/
abbrev linear (x : FVec Ideal S16384x128 .f32) (W : FVec Ideal S384x128 .f32)
    (b : FVec Ideal S384 .f32) : FVec Ideal S16384x384 .f32 :=
  addf (Host.dotGeneral dot_S16384x128_S128x384_S16384x384_1_0_0_1_n_n none x
      (transpose S128x384 [1, 0] W transposes_S384x128_S128x384_1_0))
    (broadcastInDim S16384x384 ![0, 1] bcast_S1x384_S16384x384_0_1
      (broadcastInDim S1x384 ![1] bcast_S384_S1x384_1 b))

/-- The linear layer at batch row `r` and column `q`. -/
theorem linear_apply (x : FVec Ideal S16384x128 .f32) (W : FVec Ideal S384x128 .f32)
    (b : FVec Ideal S384 .f32) (r : Fin 16384) (q : Fin 384) :
    linear x W b (ix2 r q)
      = proj (fun k => x (ix2 r k)) (fun q k => W (ix2 q k)) (fun q => b (ix1 q)) q := by
  pointwise [linear]
  rfl

/-- An array of ones. -/
abbrev ones : FVec Ideal S16384x128 .f32 :=
  broadcastInDim S16384x128 ![] bcast_S_S16384x128 (constant S_ .f32 0x3F800000#32)

/-- The reference's sigmoid. -/
abbrev sigmoid (x : FVec Ideal S16384x128 .f32) : FVec Ideal S16384x128 .f32 :=
  Host.divf ones (addf ones (Host.exp (Host.negf x)))

/-- The reference's GRU cell, from the two projections and the old states. -/
abbrev gru (gi gh : FVec Ideal S16384x384 .f32) (h : FVec Ideal S16384x128 .f32) :
    FVec Ideal S16384x128 .f32 :=
  addf
    (mulf
      (subf ones (sigmoid (addf (extractStridedSlice S16384x128 ![0, 128] gi slices_S16384x384_S16384x128_0_128)
        (extractStridedSlice S16384x128 ![0, 128] gh slices_S16384x384_S16384x128_0_128))))
      (Host.tanh (addf (extractStridedSlice S16384x128 ![0, 256] gi slices_S16384x384_S16384x128_0_256)
        (mulf (sigmoid (addf (extractStridedSlice S16384x128 ![0, 0] gi slices_S16384x384_S16384x128_0_0)
            (extractStridedSlice S16384x128 ![0, 0] gh slices_S16384x384_S16384x128_0_0)))
          (extractStridedSlice S16384x128 ![0, 256] gh slices_S16384x384_S16384x128_0_256)))))
    (mulf (sigmoid (addf (extractStridedSlice S16384x128 ![0, 128] gi slices_S16384x384_S16384x128_0_128)
        (extractStridedSlice S16384x128 ![0, 128] gh slices_S16384x384_S16384x128_0_128))) h)

/-- Ones are one. -/
theorem ones_apply (r : Fin 16384) (l : Fin 128) : ones (ix2 r l) = (1 : EReal) := by
  pointwise [ones]

/-- The sigmoid is the logistic function. -/
theorem sigmoid_apply (x : FVec Ideal S16384x128 .f32) (r : Fin 16384) (l : Fin 128) :
    sigmoid x (ix2 r l) = Ideal.logistic (x (ix2 r l)) := by
  show Ideal.div (ones (ix2 r l)) (ones (ix2 r l) + Ideal.exp (-(x (ix2 r l)))) = _
  rw [ones_apply]
  rfl

/-- The GRU cell at batch row `r` and entry `l`. -/
theorem gru_apply (gi gh : FVec Ideal S16384x384 .f32) (h : FVec Ideal S16384x128 .f32)
    (r : Fin 16384) (l : Fin 128) :
    gru gi gh h (ix2 r l)
      = cell (gi (ix2 r (gate 0 l))) (gi (ix2 r (gate 1 l))) (gi (ix2 r (gate 2 l)))
          (gh (ix2 r (gate 0 l))) (gh (ix2 r (gate 1 l))) (gh (ix2 r (gate 2 l))) (h (ix2 r l)) := by
  have s0 : ∀ g : FVec Ideal S16384x384 .f32,
      extractStridedSlice S16384x128 ![0, 0] g slices_S16384x384_S16384x128_0_0 (ix2 r l)
        = g (ix2 r (gate 0 l)) := by
    intro g
    pointwise
    rw [show (⟨l.val, by omega⟩ : Fin 384) = gate 0 l from Fin.ext (by simp [gate])]
  have s1 : ∀ g : FVec Ideal S16384x384 .f32,
      extractStridedSlice S16384x128 ![0, 128] g slices_S16384x384_S16384x128_0_128 (ix2 r l)
        = g (ix2 r (gate 1 l)) := by
    intro g
    pointwise
    rw [show (⟨128 + l.val, by omega⟩ : Fin 384) = gate 1 l from rfl]
  have s2 : ∀ g : FVec Ideal S16384x384 .f32,
      extractStridedSlice S16384x128 ![0, 256] g slices_S16384x384_S16384x128_0_256 (ix2 r l)
        = g (ix2 r (gate 2 l)) := by
    intro g
    pointwise
    rw [show (⟨256 + l.val, by omega⟩ : Fin 384) = gate 2 l from rfl]
  unfold cell
  rw [← s0 gi, ← s1 gi, ← s2 gi, ← s0 gh, ← s1 gh, ← s2 gh]
  show (ones (ix2 r l) - sigmoid _ (ix2 r l)) * Ideal.tanh (_ + sigmoid _ (ix2 r l) * _)
    + sigmoid _ (ix2 r l) * _ = _
  rw [ones_apply, sigmoid_apply, sigmoid_apply]
  rfl

/-- The reference's result: the scatter of the new states, flattened. -/
abbrev composed (S : FVec Ideal S16384x16x128 .f32) (U : FVec Ideal S16384x128 .f32)
    (Wi Wh : FVec Ideal S384x128 .f32) (bi bh : FVec Ideal S384 .f32) (ids : IVec S16384 32) :
    FVec Ideal S262144x128 .f32 :=
  shapeCast S262144x128
    (Host.scatter scatter_S16384x16x128_S16384x2_S16384x128_1_01_01_1 (fun _ b => b) S (pairs ids)
      (gru (linear U Wi bi)
        (linear (Host.gather gather_S16384x16x128_S16384x2_S16384x128_1_01_n_n_01_1_11128 S (pairs ids)) Wh bh)
        (Host.gather gather_S16384x16x128_S16384x2_S16384x128_1_01_n_n_01_1_11128 S (pairs ids))))
    shapeCasts_S16384x16x128_S262144x128

/-- The reference's result is the updated table. -/
theorem composed_apply (S : FVec Ideal S16384x16x128 .f32) (U : FVec Ideal S16384x128 .f32)
    (Wi Wh : FVec Ideal S384x128 .f32) (bi bh : FVec Ideal S384 .f32) (ids : IVec S16384 32)
    (i : Fin 262144) (l : Fin 128) :
    composed S U Wi Wh bi bh ids (ix2 i l)
      = table (fun b s k => S (ix3 b s k)) (fun b k => U (ix2 b k)) (fun q k => Wi (ix2 q k))
          (fun q k => Wh (ix2 q k)) (fun q => bi (ix1 q)) (fun q => bh (ix1 q))
          (fun b => ids (ix1 b)) i l := by
  have flat : ∀ x : FVec Ideal S16384x16x128 .f32,
      shapeCast S262144x128 x shapeCasts_S16384x16x128_S262144x128 (ix2 i l)
        = x (ix3 (batchOf i) (stateOf i) l) := by
    intro x
    pointwise
    rfl
  rw [composed, flat, scatter_apply _ _ _ _ (pairs_address ids), gru_apply]
  simp only [linear_apply, gather_apply _ _ _ (pairs_address ids)]
  rfl

variable (m : (ℓ : Loc nD τ sig) → Buf (Elt Ideal) ℓ) (c : Dev nD)

/-- The term the reference's run ends at is that composition of its arguments. -/
theorem reference_eq : Cert.ReferenceIdeal.Value.res_main_v68 m c
    = composed (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  unfold Cert.ReferenceIdeal.Value.res_main_v68
  rfl

end Cert.Gru
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Reference
public import Idealize.ShloMosaic.Lib.Quiescent
public import Idealize.ShloMosaic.Adequacy
public import Idealize.ShloMosaic.Init

@[expose] public section

noncomputable section

/-!
The claims about the speaker-state update kernel.

The kernel and its idealization run and leave their arguments and every semaphore counter as they
were; so does the reference. The idealization rewrites nothing. On agreeing arguments the kernel's
result and the reference's are the same array, the updated state table.
-/

namespace Cert.Proof

open Idealize.ShloMosaic Idealize.SL.Sem Cert.Kernel

/-- The kernel runs, its arguments unchanged and every semaphore counter back at zero. -/
theorem frame_kernel : Cert.quiescent_Kernel := fun m ρ _ => Cert.Kernel.Gen.frame m ρ

/-- The same of the kernel's idealization. -/
theorem frame_ideal : Cert.quiescent_KernelIdeal := fun m ρ _ => Cert.KernelIdeal.Gen.frame m ρ

/-- The same of the reference, which has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On agreeing arguments, the reference's result is the array the kernel leaves. -/
theorem reference_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v68 m' c = Cert.Gru.result m c := by
  rw [Cert.Gru.reference_eq, h0, h1, h2, h3, h4, h5, h6]
  funext i
  obtain ⟨r, l, rfl⟩ : ∃ (r : Fin 262144) (l : Fin 128), i = ix2 r l :=
    ⟨i 0, i 1, funext fun a => by fin_cases a <;> rfl⟩
  exact Cert.Gru.composed_apply _ _ _ _ _ _ _ r l

/-- The kernel and the reference leave the same result array, arguments unchanged. -/
theorem same_result : Cert.algebraic_KernelIdeal_ReferenceIdeal := by
  intro m ρ m' ρ' _ hag
  refine ⟨fun c => Cert.Gru.result m c,
    (θ_run Cert.KernelIdeal.defs _ _).mono
      (fun _ h c => ⟨(h c).1.trans (Cert.Gru.final m c), (h c).2⟩)
      (Cert.KernelIdeal.Value.run_blocks (F := Ideal) m ρ),
    (θ_run Cert.ReferenceIdeal.defs _ _).mono (fun _ h c => ⟨(h c).1.trans ?_, (h c).2⟩)
      (Cert.ReferenceIdeal.Value.run (F := Ideal) m' ρ')⟩
  obtain ⟨h0, h1, h2, h3, h4, h5, h6⟩ := hag c
  exact reference_result m m' c h0 h1 h2 h3 h4 h5 h6

/-- All five claims. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
